-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_routed [hPre_tokens_routed : Cert.Pre_tokens_routed.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_routed [hPre_tokens_routed : Cert.Pre_tokens_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_routed [hKernelIdeal : Cert.KernelIdeal.Facts] [hPre_tokens_routed : Cert.Pre_tokens_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_routed [hReferenceIdeal : Cert.ReferenceIdeal.Facts] [hPre_tokens_routed : Cert.Pre_tokens_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_routed [hKernelIdeal : Cert.KernelIdeal.Facts] [hReferenceIdeal : Cert.ReferenceIdeal.Facts] [hPre_tokens_routed : Cert.Pre_tokens_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_routed : Cert.Pre_tokens_routed.Facts),
    quiescent_Kernel (hKernel := hKernel)
    ∧ quiescent_KernelIdeal (hKernelIdeal := hKernelIdeal)
    ∧ quiescent_KernelIdeal_pre_tokens_routed (hKernelIdeal := hKernelIdeal) (hPre_tokens_routed := hPre_tokens_routed)
    ∧ quiescent_ReferenceIdeal (hReferenceIdeal := hReferenceIdeal)
    ∧ quiescent_ReferenceIdeal_pre_tokens_routed (hReferenceIdeal := hReferenceIdeal) (hPre_tokens_routed := hPre_tokens_routed)
    ∧ preserves_Kernel_KernelIdeal
    ∧ algebraic_KernelIdeal_ReferenceIdeal_pre_tokens_routed (hKernelIdeal := hKernelIdeal) (hReferenceIdeal := hReferenceIdeal) (hPre_tokens_routed := hPre_tokens_routed)
-- ==== Pre_tokens_routed.lean ====
abbrev S2048x1024 : Shape := ⟨2, ![2048, 1024]⟩
abbrev S1024x1024 : Shape := ⟨2, ![1024, 1024]⟩
abbrev S8x1024x32 : Shape := ⟨3, ![8, 1024, 32]⟩
abbrev S8x32 : Shape := ⟨2, ![8, 32]⟩
abbrev S8x32x1024 : Shape := ⟨3, ![8, 32, 1024]⟩
abbrev S1024 : Shape := ⟨1, ![1024]⟩
abbrev S2048x2 : Shape := ⟨2, ![2048, 2]⟩
abbrev S_ : Shape := ⟨0, ![]⟩

class Facts : Prop where
  bcast_S_S2048x2 : S_.BroadcastsInDim S2048x2 (![] : Fin 0 → Fin S2048x2.rank)
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x1024x32 : S_.BroadcastsInDim S8x1024x32 (![] : Fin 0 → Fin S8x1024x32.rank)
  reducesTo_S8x1024x32_S_d0_1_2 : S8x1024x32.ReducesTo [0, 1, 2] S_
  bcast_S_S8x32 : S_.BroadcastsInDim S8x32 (![] : Fin 0 → Fin S8x32.rank)
  reducesTo_S8x32_S_d0_1 : S8x32.ReducesTo [0, 1] S_
  bcast_S_S8x32x1024 : S_.BroadcastsInDim S8x32x1024 (![] : Fin 0 → Fin S8x32x1024.rank)
  reducesTo_S8x32x1024_S_d0_1_2 : S8x32x1024.ReducesTo [0, 1, 2] S_

variable [Facts]

def fn_part1 {F : FTy → Type} [FloatOps F] (main_arg4 : FVec F S8x32x1024 .f32) (main_arg6 : FVec F S2048x2 .f32) (main_v4 : IVec S2048x2 1) (main_v13 : IVec S_ 1) (main_v16 : IVec S8x32 1) : IVec S2048x2 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S8x32x1024 .f32 := Host.absf main_arg4
  let main_cst_6 : FVec F S_ .f32 := constant S_ .f32 0x7F800000#32
  let main_v20 : FVec F S8x32x1024 .f32 := broadcastInDim S8x32x1024 ![] bcast_S_S8x32x1024 main_cst_6
  let main_v21 : IVec S8x32x1024 1 := cmpf .olt main_v19 main_v20
  let main_c_7 : IVec S_ 1 := constantI S_ 1 1#1
  let main_v22 : IVec S_ 1 := (fun x v => Host.reduce IntOp.andi x v reducesTo_S8x32x1024_S_d0_1_2 h_S_) main_v21 main_c_7
  let main_v23 : IVec S_ 1 := andi main_v18 main_v22
  let main_v24 : FVec F S2048x2 .f32 := Host.absf main_arg6
  let main_cst_8 : FVec F S_ .f32 := constant S_ .f32 0x7F800000#32
  let main_v25 : FVec F S2048x2 .f32 := broadcastInDim S2048x2 ![] bcast_S_S2048x2 main_cst_8
  let main_v26 : IVec S2048x2 1 := cmpf .olt main_v24 main_v25
  let main_v27 : IVec S2048x2 1 := andi main_v4 main_v26
  let main_cst_9 : FVec F S_ .f32 := constant S_ .f32 0x00000000#32
  let main_v28 : FVec F S2048x2 .f32 := broadcastInDim S2048x2 ![] bcast_S_S2048x2 main_cst_9
  let main_v29 : IVec S2048x2 1 := cmpf .oge main_arg6 main_v28
  let main_v30 : IVec S2048x2 1 := broadcastInDim S2048x2 ![] bcast_S_S2048x2 main_v23
  let main_v31 : IVec S2048x2 1 := ori main_v29 main_v30
  let main_v32 : IVec S2048x2 1 := andi main_v27 main_v31
  main_v32

def fn {F : FTy → Type} [FloatOps F] (main_arg0 : FVec F S2048x1024 .f32) (main_arg1 : FVec F S1024x1024 .f32) (main_arg2 : FVec F S8x1024x32 .f32) (main_arg3 : FVec F S8x32 .f32) (main_arg4 : FVec F S8x32x1024 .f32) (main_arg5 : FVec F S1024 .f32) (main_arg6 : FVec F S2048x2 .f32) (main_arg7 : IVec S2048x2 32) : IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg7 main_v0
  let main_c_0 : IVec S_ 32 := constantI S_ 32 8#32
  let main_v2 : IVec S2048x2 32 := broadcastInDim S2048x2 ![] bcast_S_S2048x2 main_c_0
  let main_v3 : IVec S2048x2 1 := cmpi .slt main_arg7 main_v2
  let main_v4 : IVec S2048x2 1 := andi main_v1 main_v3
  let main_v5 : FVec F S2048x1024 .f32 := Host.absf main_arg0
  let main_cst : FVec F S_ .f32 := constant S_ .f32 0x7F800000#32
  let main_v6 : FVec F S2048x1024 .f32 := broadcastInDim S2048x1024 ![] bcast_S_S2048x1024 main_cst
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : FVec F S8x1024x32 .f32 := Host.absf main_arg2
  let main_cst_2 : FVec F S_ .f32 := constant S_ .f32 0x7F800000#32
  let main_v10 : FVec F S8x1024x32 .f32 := broadcastInDim S8x1024x32 ![] bcast_S_S8x1024x32 main_cst_2
  let main_v11 : IVec S8x1024x32 1 := cmpf .olt main_v9 main_v10
  let main_c_3 : IVec S_ 1 := constantI S_ 1 1#1
  let main_v12 : IVec S_ 1 := (fun x v => Host.reduce IntOp.andi x v reducesTo_S8x1024x32_S_d0_1_2 h_S_) main_v11 main_c_3
  let main_v13 : IVec S_ 1 := andi main_v8 main_v12
  let main_v14 : FVec F S8x32 .f32 := Host.absf main_arg3
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg4 main_arg6 main_v4 main_v13 main_v16
-- ==== Kernel.lean ====
abbrev S2048x1024 : Shape := ⟨2, ![2048, 1024]⟩
abbrev S1024x1024 : Shape := ⟨2, ![1024, 1024]⟩
abbrev S8x1024x32 : Shape := ⟨3, ![8, 1024, 32]⟩
abbrev S8x32 : Shape := ⟨2, ![8, 32]⟩
abbrev S8x32x1024 : Shape := ⟨3, ![8, 32, 1024]⟩
abbrev S1024 : Shape := ⟨1, ![1024]⟩
abbrev S2048x2 : Shape := ⟨2, ![2048, 2]⟩
abbrev S256x1024 : Shape := ⟨2, ![256, 1024]⟩
abbrev S1x256 : Shape := ⟨2, ![1, 256]⟩
abbrev S1x1024 : Shape := ⟨2, ![1, 1024]⟩
abbrev S512x1024 : Shape := ⟨2, ![512, 1024]⟩
abbrev S512x2 : Shape := ⟨2, ![512, 2]⟩
abbrev S512x256 : Shape := ⟨2, ![512, 256]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S8x1024x32, .f32⟩
  | .hbm, ⟨3, _⟩ => ⟨S8x32, .f32⟩
  | .hbm, ⟨4, _⟩ => ⟨S8x32x1024, .f32⟩
  | .hbm, ⟨5, _⟩ => ⟨S1024, .f32⟩
  | .hbm, ⟨6, _⟩ => ⟨S2048x2, .f32⟩
  | .hbm, ⟨7, _⟩ => ⟨S2048x2, .i32⟩
  | .hbm, ⟨8, _⟩ => ⟨S256x1024, .f32⟩
  | .hbm, ⟨9, _⟩ => ⟨S8x32x1024, .f32⟩
  | .hbm, ⟨10, _⟩ => ⟨S256x1024, .f32⟩
  | .hbm, ⟨11, _⟩ => ⟨S1x256, .f32⟩
  | .hbm, ⟨12, _⟩ => ⟨S1x1024, .f32⟩
  | .hbm, ⟨13, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S1x256, .f32⟩
  | .local _ .vmem, ⟨6, _⟩ => ⟨S1x1024, .f32⟩
  | .local _ .vmem, ⟨7, _⟩ => ⟨S512x2, .f32⟩
  | .local _ .vmem, ⟨8, _⟩ => ⟨S512x2, .f32⟩
  | .local _ .vmem, ⟨9, _⟩ => ⟨S512x2, .i32⟩
  | .local _ .vmem, ⟨10, _⟩ => ⟨S512x2, .i32⟩
  | .local _ .vmem, ⟨11, _⟩ => ⟨S512x1024, .f32⟩
  | .local _ .vmem, ⟨12, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x1024 : Shape := ⟨2, ![2048, 1024]⟩
abbrev S1024x1024 : Shape := ⟨2, ![1024, 1024]⟩
abbrev S8x1024x32 : Shape := ⟨3, ![8, 1024, 32]⟩
abbrev S8x32 : Shape := ⟨2, ![8, 32]⟩
abbrev S8x32x1024 : Shape := ⟨3, ![8, 32, 1024]⟩
abbrev S1024 : Shape := ⟨1, ![1024]⟩
abbrev S2048x2 : Shape := ⟨2, ![2048, 2]⟩
abbrev S2048x1x1024 : Shape := ⟨3, ![2048, 1, 1024]⟩
abbrev S_ : Shape := ⟨0, ![]⟩
abbrev S2048x1 : Shape := ⟨2, ![2048, 1]⟩
abbrev S2048 : Shape := ⟨1, ![2048]⟩
abbrev S2048x1x1 : Shape := ⟨3, ![2048, 1, 1]⟩
abbrev S1 : Shape := ⟨1, ![1]⟩
abbrev S1x1 : Shape := ⟨2, ![1, 1]⟩
abbrev S2048x1024x32 : Shape := ⟨3, ![2048, 1024, 32]⟩
abbrev S2048x32 : Shape := ⟨2, ![2048, 32]⟩
abbrev S2048x32x1024 : Shape := ⟨3, ![2048, 32, 1024]⟩
abbrev S2048x1x32 : Shape := ⟨3, ![2048, 1, 32]⟩
abbrev S1x1024 : Shape := ⟨2, ![1, 1024]⟩

abbrev nBuf : Space → Nat
  | .hbm => 181
  | .vmem => 0
  | .smem => 0
  | _ => 0

abbrev hbmTy0_0 (i : Nat) : BufTy := match i % 128 with
  | 0 => ⟨S2048x1024, .f32⟩
  | 1 => ⟨S1024x1024, .f32⟩
  | 2 => ⟨S8x1024x32, .f32⟩
  | 3 => ⟨S8x32, .f32⟩
  | 4 => ⟨S8x32x1024, .f32⟩
  | 5 => ⟨S1024, .f32⟩
  | 6 => ⟨S2048x2, .f32⟩
  | 7 => ⟨S2048x2, .i32⟩
  | 8 => ⟨S1024x1024, .f32⟩
  | 9 => ⟨S2048x1024, .f32⟩
  | 10 => ⟨S2048x1x1024, .f32⟩
  | 11 => ⟨S_, .f32⟩
  | 12 => ⟨S2048x1024, .f32⟩
  | 13 => ⟨S2048x1x1024, .f32⟩
  | 14 => ⟨S2048x1, .i32⟩
  | 15 => ⟨S2048, .i32⟩
  | 16 => ⟨S2048x1, .f32⟩
  | 17 => ⟨S2048, .f32⟩
  | 18 => ⟨S2048x1x1, .f32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S1, .i32⟩
  | 28 => ⟨S_, .i32⟩
  | 29 => ⟨S2048x1, .i32⟩
  | 30 => ⟨S2048x1, .i1⟩
  | 31 => ⟨S1x1, .i32⟩
  | 32 => ⟨S2048x1, .i32⟩
  | 33 => ⟨S2048x1, .i1⟩
  | 34 => ⟨S2048x1, .i1⟩
  | 35 => ⟨S_, .i1⟩
  | 36 => ⟨S2048, .i1⟩
  | 37 => ⟨S2048x1024x32, .f32⟩
  | 38 => ⟨S2048x1024x32, .i1⟩
  | 39 => ⟨S_, .f32⟩
  | 40 => ⟨S2048x1024x32, .f32⟩
  | 41 => ⟨S2048x1024x32, .f32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S1, .i32⟩
  | 51 => ⟨S_, .i32⟩
  | 52 => ⟨S2048x1, .i32⟩
  | 53 => ⟨S2048x1, .i1⟩
  | 54 => ⟨S1x1, .i32⟩
  | 55 => ⟨S2048x1, .i32⟩
  | 56 => ⟨S2048x1, .i1⟩
  | 57 => ⟨S2048x1, .i1⟩
  | 58 => ⟨S_, .i1⟩
  | 59 => ⟨S2048, .i1⟩
  | 60 => ⟨S2048x32, .f32⟩
  | 61 => ⟨S2048x32, .i1⟩
  | 62 => ⟨S_, .f32⟩
  | 63 => ⟨S2048x32, .f32⟩
  | 64 => ⟨S2048x32, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S1, .i32⟩
  | 74 => ⟨S_, .i32⟩
  | 75 => ⟨S2048x1, .i32⟩
  | 76 => ⟨S2048x1, .i1⟩
  | 77 => ⟨S1x1, .i32⟩
  | 78 => ⟨S2048x1, .i32⟩
  | 79 => ⟨S2048x1, .i1⟩
  | 80 => ⟨S2048x1, .i1⟩
  | 81 => ⟨S_, .i1⟩
  | 82 => ⟨S2048, .i1⟩
  | 83 => ⟨S2048x32x1024, .f32⟩
  | 84 => ⟨S2048x32x1024, .i1⟩
  | 85 => ⟨S_, .f32⟩
  | 86 => ⟨S2048x32x1024, .f32⟩
  | 87 => ⟨S2048x32x1024, .f32⟩
  | 88 => ⟨S2048x1x32, .f32⟩
  | 89 => ⟨S2048x1x32, .f32⟩
  | 90 => ⟨S2048x1x32, .f32⟩
  | 91 => ⟨S2048x1x1024, .f32⟩
  | 92 => ⟨S2048x1x1024, .f32⟩
  | 93 => ⟨S2048x1x1024, .f32⟩
  | 94 => ⟨S2048x1x1024, .f32⟩
  | 95 => ⟨S2048x1, .i32⟩
  | 96 => ⟨S2048, .i32⟩
  | 97 => ⟨S2048x1, .f32⟩
  | 98 => ⟨S2048, .f32⟩
  | 99 => ⟨S2048x1x1, .f32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S1, .i32⟩
  | 109 => ⟨S_, .i32⟩
  | 110 => ⟨S2048x1, .i32⟩
  | 111 => ⟨S2048x1, .i1⟩
  | 112 => ⟨S1x1, .i32⟩
  | 113 => ⟨S2048x1, .i32⟩
  | 114 => ⟨S2048x1, .i1⟩
  | 115 => ⟨S2048x1, .i1⟩
  | 116 => ⟨S_, .i1⟩
  | 117 => ⟨S2048, .i1⟩
  | 118 => ⟨S2048x1024x32, .f32⟩
  | 119 => ⟨S2048x1024x32, .i1⟩
  | 120 => ⟨S_, .f32⟩
  | 121 => ⟨S2048x1024x32, .f32⟩
  | 122 => ⟨S2048x1024x32, .f32⟩
  | 123 => ⟨S_, .i32⟩
  | 124 => ⟨S2048, .i32⟩
  | 125 => ⟨S2048, .i1⟩
  | 126 => ⟨S_, .i32⟩
  | 127 => ⟨S2048, .i32⟩
  | _ => ⟨S2048x1024, .f32⟩

abbrev hbmTy0_1 (i : Nat) : BufTy := match i % 128 with
  | 0 => ⟨S2048, .i32⟩
  | 1 => ⟨S2048, .i32⟩
  | 2 => ⟨S2048x1, .i32⟩
  | 3 => ⟨S1, .i32⟩
  | 4 => ⟨S_, .i32⟩
  | 5 => ⟨S2048x1, .i32⟩
  | 6 => ⟨S2048x1, .i1⟩
  | 7 => ⟨S1x1, .i32⟩
  | 8 => ⟨S2048x1, .i32⟩
  | 9 => ⟨S2048x1, .i1⟩
  | 10 => ⟨S2048x1, .i1⟩
  | 11 => ⟨S_, .i1⟩
  | 12 => ⟨S2048, .i1⟩
  | 13 => ⟨S2048x32, .f32⟩
  | 14 => ⟨S2048x32, .i1⟩
  | 15 => ⟨S_, .f32⟩
  | 16 => ⟨S2048x32, .f32⟩
  | 17 => ⟨S2048x32, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S1, .i32⟩
  | 27 => ⟨S_, .i32⟩
  | 28 => ⟨S2048x1, .i32⟩
  | 29 => ⟨S2048x1, .i1⟩
  | 30 => ⟨S1x1, .i32⟩
  | 31 => ⟨S2048x1, .i32⟩
  | 32 => ⟨S2048x1, .i1⟩
  | 33 => ⟨S2048x1, .i1⟩
  | 34 => ⟨S_, .i1⟩
  | 35 => ⟨S2048, .i1⟩
  | 36 => ⟨S2048x32x1024, .f32⟩
  | 37 => ⟨S2048x32x1024, .i1⟩
  | 38 => ⟨S_, .f32⟩
  | 39 => ⟨S2048x32x1024, .f32⟩
  | 40 => ⟨S2048x32x1024, .f32⟩
  | 41 => ⟨S2048x1x32, .f32⟩
  | 42 => ⟨S2048x1x32, .f32⟩
  | 43 => ⟨S2048x1x32, .f32⟩
  | 44 => ⟨S2048x1x1024, .f32⟩
  | 45 => ⟨S2048x1x1024, .f32⟩
  | 46 => ⟨S2048x1x1024, .f32⟩
  | 47 => ⟨S2048x1x1024, .f32⟩
  | 48 => ⟨S2048x1024, .f32⟩
  | 49 => ⟨S2048x1024, .f32⟩
  | 50 => ⟨S1x1024, .f32⟩
  | 51 => ⟨S2048x1024, .f32⟩
  | 52 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v11 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v25 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v26 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_v30 : Ref sig .tc := ⟨.hbm, 171, rfl⟩
abbrev main_v31 : Ref sig .tc := ⟨.hbm, 172, rfl⟩
abbrev main_v32 : Ref sig .tc := ⟨.hbm, 173, rfl⟩
abbrev main_v33 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩
abbrev main_v37 : Ref sig .tc := ⟨.hbm, 178, rfl⟩
abbrev main_v38 : Ref sig .tc := ⟨.hbm, 179, rfl⟩
abbrev main_v39 : Ref sig .tc := ⟨.hbm, 180, rfl⟩

abbrev nD : Nat := 1
abbrev τ : Topo := Topo.v7x

variable {F : FTy → Type} [FloatOps F]
-- ==== Proof.KernelValue.lean ====
/- What the kernel leaves: for each token and output coordinate, the dense product, the bias, and all 256 low-rank columns,
   each weighted by the gates that name the column's expert. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen

variable (m : (ℓ : Loc nD τ sig) → Buf (Elt Ideal) ℓ)

/-- Where each operand's block sits at a grid point: the tokens' blocks move down with the point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- Column `c` belongs to expert `c / 32`: what the kernel computes with a floor division by 32 and its corrections. -/
theorem expert_at (c : Fin 256) : k0_pay3 (ix2 0 c) = BitVec.ofNat 32 (c.val / 32) := by
  pointwise [k0_pay3]
  revert c
  decide +kernel

/-- The block's entry at row `r` and output coordinate `o`, as a function of the blocks the kernel loads. -/
theorem pay_at (x : FVec Ideal S512x1024 .f32) (v : FVec Ideal S256x1024 .f32) (idx : IVec S512x2 32) (g : FVec Ideal S512x2 .f32)
    (s : FVec Ideal S1x256 .f32) (w : FVec Ideal S1024x1024 .f32) (u : FVec Ideal S256x1024 .f32) (b : FVec Ideal S1x1024 .f32)
    (r : Fin 512) (o : Fin 1024) :
    k0_pay1 (F := Ideal) x (k0_pay2 x v) k0_pay3 idx g k0_pay4 (k0_pay5 idx g) s w u b (ix2 r o)
      = ∑ i, x (ix2 r i) * w (ix2 o i)
        + ∑ k : Fin 256, (∑ i, x (ix2 r i) * v (ix2 k i))
            * (((if idx (ix2 r 0) = BitVec.ofNat 32 (k.val / 32) then g (ix2 r 0) else 0)
              + (if idx (ix2 r 1) = BitVec.ofNat 32 (k.val / 32) then g (ix2 r 1) else 0)) * s (ix2 0 k)) * u (ix2 k o)
        + b (ix2 0 o) := by
  have sel : ∀ (a b : BitVec 32) (g : EReal), Scalar.select (IntOp.cmpi .eq a b) g 0 = if a = b then g else 0 := by
    intro a b g
    unfold Scalar.select IntOp.cmpi
    by_cases h : a = b
    · simp [h]
    · rw [if_neg h, beq_eq_false_iff_ne.2 h]
      rfl
  pointwise [k0_pay1, k0_pay2, k0_pay4, k0_pay5]
  simp only [expert_at, sel]

/-- The layer's entry for token `n` and output coordinate `o`, taken as the kernel takes it: all 256 columns, column `c`
    being rank `c % 32` of expert `c / 32`, each weighted by the gates that name its expert. -/
def columns (x : FVec Ideal S2048x1024 .f32) (w : FVec Ideal S1024x1024 .f32) (u : FVec Ideal S8x1024x32 .f32)
    (s : FVec Ideal S8x32 .f32) (v : FVec Ideal S8x32x1024 .f32) (b : FVec Ideal S1024 .f32) (g : FVec Ideal S2048x2 .f32)
    (idx : IVec S2048x2 32) (n : Fin 2048) (o : Fin 1024) : EReal :=
  ∑ i, x (ix2 n i) * w (ix2 o i)
    + ∑ k : Fin 256, (∑ i, x (ix2 n i) * v (ix3 ⟨k.val / 32, by omega⟩ ⟨k.val % 32, by omega⟩ i))
        * (((if idx (ix2 n 0) = BitVec.ofNat 32 (k.val / 32) then g (ix2 n 0) else 0)
            + (if idx (ix2 n 1) = BitVec.ofNat 32 (k.val / 32) then g (ix2 n 1) else 0))
          * s (ix2 ⟨k.val / 32, by omega⟩ ⟨k.val % 32, by omega⟩))
        * u (ix3 ⟨k.val / 32, by omega⟩ o ⟨k.val % 32, by omega⟩)
    + b (ix1 o)

/-- The kernel's `U` operand: row `k` is rank `k % 32` of expert `k / 32`, transposed. -/
theorem entry_u (c : Dev nD) (k : Fin 256) (o : Fin 1024) :
    (V m c main_call0_v2 : FVec Ideal S256x1024 .f32) (ix2 k o)
      = (m (c.tc.loc main_arg2) : FVec Ideal S8x1024x32 .f32) (ix3 ⟨k.val / 32, by omega⟩ o ⟨k.val % 32, by omega⟩) := by
  entry_read
  simp only [StableHlo.TRef.toBuf, StableHlo.TRef.ofBuf, cast_eq]
  pointwise

/-- The `U` block is the whole operand. -/
theorem block_u (c : Dev nD) (t : Fin cfg0.N) (k : Fin 256) (o : Fin 1024) :
    (iblk m c 3 t : FVec Ideal S256x1024 .f32) (ix2 k o)
      = (m (c.tc.loc main_arg2) : FVec Ideal S8x1024x32 .f32) (ix3 ⟨k.val / 32, by omega⟩ o ⟨k.val % 32, by omega⟩) := by
  rw [← entry_u m c k o]
  blk_point [iblk, idx t]

/-- What the kernel leaves at a block's place is the layer's entry there. -/
theorem point (c : Dev nD) (t : Fin cfg0.N) (r : Fin 512) (o : Fin 1024) :
    k0_pay1 (F := Ideal) (iblk m c 0 t) (k0_pay2 (iblk m c 0 t) (iblk m c 2 t)) k0_pay3 (iblk m c 7 t) (iblk m c 6 t) k0_pay4
        (k0_pay5 (iblk m c 7 t) (iblk m c 6 t)) (iblk m c 4 t) (iblk m c 1 t) (iblk m c 3 t) (iblk m c 5 t) (ix2 r o) =
      columns (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        ⟨t.val * 512 + r.val, by have := t.isLt; have : cfg0.N = 4 := by decide
                                 omega⟩ o := by
  rw [pay_at]
  simp only [block_u]
  unfold columns
  blk_point [iblk, idx t]

/-- After the last block the result array is the layer, entry by entry. -/
theorem final (c : Dev nD) : (dats m 0 c).arrAt 8 (cfgs 0).N = fun j =>
      columns (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) (j 0) (j 1) := by
  refine (dats m 0 c).arrAt_eq_of_covers 8 _ (by decide +kernel) fun t _ y => ?_
  blk_simp
  rw [after0_8]; frame_out
  idx_vars y
  refine (point m c t _ _).trans ?_
  blk_point [idx t]

end Cert.KernelIdeal.Layer

end
-- ==== Proof.HostReads.lean ====
/- Two of the host's operations read at an index: the conjunction of a mask along axes, and a table's page taken at an
   index of the table's first axis. -/
module

public import Idealize.ShloMosaic.Lib.Routing.Ops
public import Idealize.ShloMosaic.Lib.Affine
public import Idealize.ShloMosaic.PureOps.Reduce
public import Idealize.ShloMosaic.Lib.Pointwise

@[expose] public section

noncomputable section

namespace Cert.HostReads

open Idealize.ShloMosaic

/-- The conjunction of two bits is set exactly when both are. -/
theorem andi_one (a b : BitVec 1) : IntOp.andi a b = 1#1 ↔ a = 1#1 ∧ b = 1#1 := by revert a b; decide

/-- The disjunction of two bits is set exactly when one of them is. -/
theorem ori_one (a b : BitVec 1) : IntOp.ori a b = 1#1 ↔ a = 1#1 ∨ b = 1#1 := by revert a b; decide

/-- A running conjunction of bits is set exactly when its start and every bit are. -/
theorem foldl_andi {ι : Type} (x : ι → BitVec 1) : ∀ (l : List ι) (a : BitVec 1),
    l.foldl (fun r i => IntOp.andi r (x i)) a = 1#1 ↔ a = 1#1 ∧ ∀ i ∈ l, x i = 1#1
  | [], a => by simp
  | i :: l, a => by
    rw [List.foldl_cons, foldl_andi x l, andi_one]
    simp only [List.mem_cons, forall_eq_or_imp, and_assoc]

/-- A mask's conjunction along axes is set at `j` exactly when the starting bit is and every entry that falls on `j` is. -/
theorem reduce_andi {s t u : Shape} {axes : List (Fin s.rank)} (x : IVec s 1) (v : IVec u 1) (h : s.ReducesTo axes t)
    (hu : 0 < u.numel) (j : t.Idx) :
    Host.reduce IntOp.andi x v h hu j = 1#1 ↔ v (Shape.Idx.first hu) = 1#1 ∧ ∀ i, h.drop i = j → x i = 1#1 := by
  rw [Host.reduce_eq_foldl, foldl_andi]
  refine and_congr_right fun _ => ⟨fun h i hi => h i ?_, fun h i hi => ?_⟩
  · exact List.mem_filter.2 ⟨List.mem_map.2 ⟨s.rowMajor i, List.mem_finRange _, s.rowMajor.symm_apply_apply i⟩, by simpa using hi⟩
  · exact h i (by simpa using (List.mem_filter.1 hi).2)

/-- The dimension numbers of `table[indices]` for a table of `n` pages, each `[a, b]`, and `k` indices. -/
abbrev pageDims (n a b k : ℕ) (wf : GatherDims.WF ⟨3, ![n, a, b]⟩ ⟨2, ![k, 1]⟩ ⟨3, ![k, a, b]⟩ [1, 2] [0] [] [0] [] 1 ![1, a, b]) :
    GatherDims ⟨3, ![n, a, b]⟩ ⟨2, ![k, 1]⟩ ⟨3, ![k, a, b]⟩ where
  offsetDims := [1, 2]
  collapsedSliceDims := [0]
  operandBatchingDims := []
  startIndicesBatchingDims := []
  startIndexMap := [0]
  indexVectorDim := 1
  sliceSizes := ![1, a, b]
  wf := wf

/-- Where the indices hold page number `e` at position `p`, the entry `(p, i, j)` of the pages taken is the table's
    entry `(e, i, j)`. -/
theorem gather_page {α : Type} {n a b k : ℕ}
    (wf : GatherDims.WF ⟨3, ![n, a, b]⟩ ⟨2, ![k, 1]⟩ ⟨3, ![k, a, b]⟩ [1, 2] [0] [] [0] [] 1 ![1, a, b])
    (x : (⟨3, ![n, a, b]⟩ : Shape).Idx → α) (idx : IVec ⟨2, ![k, 1]⟩ 32) (p : Fin k) (i : Fin a) (j : Fin b) (e : Fin n)
    (he : (idx (ix2 p (0 : Fin 1))).toInt = (e.val : ℤ)) :
    Host.gather (pageDims n a b k wf) x idx (ix3 p i j) = x (ix3 e i j) := by
  have hpage : (pageDims n a b k wf).siIdx (ix3 p i j) ⟨0, Nat.one_pos⟩ = ix2 p (0 : Fin 1) := by
    funext d
    match d with
    | ⟨0, _⟩ => rfl
    | ⟨1, _⟩ => rfl
  refine congrArg x (funext fun c => Fin.ext ?_)
  match c with
  | ⟨0, _⟩ =>
    change min (idx ((pageDims n a b k wf).siIdx (ix3 p i j) ⟨0, Nat.one_pos⟩)).toInt.toNat (n - 1) + 0 + 0 = e.val
    rw [hpage, he]
    have := e.isLt
    omega
  | ⟨1, _⟩ => exact Nat.zero_add _
  | ⟨2, _⟩ => exact Nat.zero_add _

end Cert.HostReads

end
-- ==== Proof.Mixture.lean ====
/- Arithmetic of the extended reals: a mixture of two experts taken column by column, each column weighted by
   the gates that name its expert, is the two experts' own sums, each weighted by its gate.

   The extended reals distribute a product over a sum only with care, so the main theorem asks that the gates are
   real, and that they are nonnegative or that everything an expert multiplies is real. -/
module

public import Mathlib.Data.EReal.Operations
public import Mathlib.Algebra.BigOperators.Fin
public import Idealize.ShloMosaic.Lib.Pipeline.ValueKit

@[expose] public section

noncomputable section

namespace Cert.Mixture

open Finset

/-- The extended real is a real number. -/
def IsReal (a : EReal) : Prop := ∃ r : ℝ, a = (r : EReal)

/-- Zero is real. -/
theorem isReal_zero : IsReal 0 := ⟨0, by simp⟩

/-- A product of reals is real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A sum of two reals is real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [sum_insert ha]
    exact (h a (mem_insert_self a S)).add (ih fun i hi => h i (mem_insert_of_mem hi))

/-- `(a + b) * c = a * c + b * c` for reals. -/
theorem add_mul_of_isReal {a b c : EReal} (ha : IsReal a) (hb : IsReal b) (hc : IsReal c) : (a + b) * c = a * c + b * c := by
  obtain ⟨r, rfl⟩ := ha; obtain ⟨s, rfl⟩ := hb; obtain ⟨t, rfl⟩ := hc
  norm_cast
  exact add_mul r s t

/-- An extended real whose absolute value, written as a maximum, is below infinity is real. -/
theorem isReal_of_abs_lt_top {a : EReal} (h : max a (-a) < ⊤) : IsReal a := by
  induction a using EReal.rec with
  | bot => simp at h
  | top => simp at h
  | coe r => exact ⟨r, rfl⟩

/-- A finite sum times a real factor is the sum of the products, when the factor is nonnegative or the summands are real. -/
theorem sum_mul_of {ι : Type*} (S : Finset ι) (f : ι → EReal) {g : EReal} (hg : IsReal g)
    (h : 0 ≤ g ∨ ∀ i, IsReal (f i)) : (∑ i ∈ S, f i) * g = ∑ i ∈ S, f i * g := by
  classical
  induction S using Finset.induction_on with
  | empty => simp
  | insert a S ha ih =>
    rw [sum_insert ha, sum_insert ha, ← ih]
    rcases h with h | h
    · obtain ⟨r, rfl⟩ := hg
      exact EReal.right_distrib_of_nonneg_of_ne_top h (EReal.coe_ne_top r) _ _
    · exact add_mul_of_isReal (h a) (isReal_sum S f fun i _ => h i) hg

/-- The expert's own sum over its 32 ranks: what comes out of it for one token and one output coordinate. -/
def expert (low s u : Fin 8 → Fin 32 → EReal) (e : Fin 8) : EReal := ∑ r : Fin 32, low e r * s e r * u e r

/-- The weight of expert `a` in the sum over columns: the gates of those of the two named experts that are `a`. -/
def weight (e₀ e₁ : Fin 8) (g₀ g₁ : EReal) (a : Fin 8) : EReal := (if e₀ = a then g₀ else 0) + (if e₁ = a then g₁ else 0)

/-- One gate's part of the sum over all 256 columns is the named expert's sum, weighted by the gate. -/
theorem sum_named (low s u : Fin 8 → Fin 32 → EReal) (e : Fin 8) {g : EReal} (hg : IsReal g)
    (h : 0 ≤ g ∨ ∀ a r, IsReal (low a r * s a r * u a r)) :
    ∑ a : Fin 8, ∑ r : Fin 32, low a r * s a r * u a r * (if e = a then g else 0) = expert low s u e * g := by
  rw [expert, sum_mul_of _ _ hg (h.imp_right fun h r => h e r), sum_eq_single e]
  · simp
  · intro a _ ha
    simp [ha.symm]
  · simp

/-- A column's term with the mixed weight inside splits into one term for each gate. -/
theorem term_split {l s u w₀ w₁ : EReal} (hw₀ : IsReal w₀) (hw₁ : IsReal w₁)
    (h : (0 ≤ w₀ ∧ 0 ≤ w₁) ∨ IsReal (l * s * u)) :
    l * ((w₀ + w₁) * s) * u = l * s * u * w₀ + l * s * u * w₁ := by
  have e : l * ((w₀ + w₁) * s) * u = (w₀ + w₁) * (l * s * u) := by
    rw [mul_comm (w₀ + w₁) s, ← mul_assoc l s, mul_assoc (l * s), mul_comm (w₀ + w₁) u, ← mul_assoc (l * s), mul_comm]
  rw [e, mul_comm (l * s * u) w₀, mul_comm (l * s * u) w₁]
  rcases h with ⟨h₀, h₁⟩ | h
  · exact EReal.right_distrib_of_nonneg h₀ h₁
  · exact add_mul_of_isReal hw₀ hw₁ h

/-- The sum over all 256 columns — column `c` is rank `c % 32` of expert `c / 32` — with each column weighted by the gates
    that name its expert, is the two named experts' sums, each weighted by its gate. The gates are real; and they are
    nonnegative, or every factor of every column is real. -/
theorem sum_columns (low s u : Fin 8 → Fin 32 → EReal) (e₀ e₁ : Fin 8) {g₀ g₁ : EReal} (hg₀ : IsReal g₀) (hg₁ : IsReal g₁)
    (h : (0 ≤ g₀ ∧ 0 ≤ g₁) ∨ ∀ a r, IsReal (low a r) ∧ IsReal (s a r) ∧ IsReal (u a r)) :
    ∑ c : Fin 256, low ⟨c.val / 32, by omega⟩ ⟨c.val % 32, by omega⟩
        * (weight e₀ e₁ g₀ g₁ ⟨c.val / 32, by omega⟩ * s ⟨c.val / 32, by omega⟩ ⟨c.val % 32, by omega⟩)
        * u ⟨c.val / 32, by omega⟩ ⟨c.val % 32, by omega⟩
      = expert low s u e₀ * g₀ + expert low s u e₁ * g₁ := by
  have hreal : ((0 ≤ g₀ ∧ 0 ≤ g₁) ∨ ∀ a r, IsReal (low a r * s a r * u a r)) :=
    h.imp_right fun h a r => ((h a r).1.mul (h a r).2.1).mul (h a r).2.2
  have hite : ∀ (p : Prop) [Decidable p] {g : EReal}, IsReal g → IsReal (if p then g else 0) := by
    intro p _ g hg
    split
    · exact hg
    · exact isReal_zero
  have hpos : ∀ (p : Prop) [Decidable p] {g : EReal}, 0 ≤ g → 0 ≤ (if p then g else 0) := by
    intro p _ g hg
    split
    · exact hg
    · exact le_refl 0
  rw [← sum_named low s u e₀ hg₀ (hreal.imp And.left id), ← sum_named low s u e₁ hg₁ (hreal.imp And.right id),
    ← sum_add_distrib]
  refine (Fin.sum_divmod_fin 32
    (fun (a : Fin 8) (r : Fin 32) => low a r * (weight e₀ e₁ g₀ g₁ a * s a r) * u a r) rfl).trans ?_
  refine sum_congr rfl fun a _ => ?_
  rw [← sum_add_distrib]
  exact sum_congr rfl fun r _ => term_split (hite _ hg₀) (hite _ hg₁)
    (hreal.imp (fun h => ⟨hpos _ h.1, hpos _ h.2⟩) fun h => h a r)

end Cert.Mixture

end
-- ==== Proof.ReferenceValue.lean ====
/- What the reference leaves: for a token whose two indices name experts, each of the two experts' own sums times its
   gate, added to the dense product and the bias. -/
module

public import proofs.«01_k».proof.Proof.Gen.ReferenceIdeal.Run
public import proofs.«01_k».proof.Proof.HostReads
public import proofs.«01_k».proof.Proof.Mixture
public import Idealize.ShloMosaic.Lib.Pointwise

@[expose] public section

set_option maxRecDepth 16384

noncomputable section

open Idealize.ShloMosaic Idealize.ShloMosaic.TcCoe Idealize.SL.Sem
open Cert.Mixture Cert.HostReads

namespace Cert.ReferenceIdeal.Layer

open Cert.ReferenceIdeal Cert.ReferenceIdeal.Gen

variable (m : (ℓ : Loc nD τ sig) → Buf (Elt Ideal) ℓ)

/-- The rows a take reads at: the indices, a negative one counted from the end, as a column. -/
abbrev rows (w : IVec S2048 32) : IVec S2048x1 32 :=
  broadcastInDim S2048x1 ![0] bcast_S2048_S2048x1_0
    (select (cmpi .slt w (broadcastInDim S2048 ![] bcast_S_S2048 (constantI S_ 32 0#32)))
      (addi w (broadcastInDim S2048 ![] bcast_S_S2048 (constantI S_ 32 8#32))) w)

/-- An index that names an expert is that expert's row. -/
theorem rows_at (w : IVec S2048 32) (n : Fin 2048) (e : Fin 8) (h : w (ix1 n) = BitVec.ofNat 32 e.val) :
    rows w (ix2 n 0) = BitVec.ofNat 32 e.val := by
  unfold rows
  pointwise
  rw [h]
  clear h
  revert e
  decide

/-- The word of an expert's number, read signed, is that number. -/
theorem expert_toInt (e : Fin 8) : (BitVec.ofNat 32 e.val).toInt = (e.val : ℤ) := by revert e; decide

/-- The `U` page of the expert an index names. -/
theorem take_u (x : FVec Ideal S8x1024x32 .f32) (w : IVec S2048 32) (n : Fin 2048) (e : Fin 8)
    (h : w (ix1 n) = BitVec.ofNat 32 e.val) (o : Fin 1024) (r : Fin 32) :
    Host.gather gather_S8x1024x32_S2048x1_S2048x1024x32_12_0_n_n_0_1_1102432 x (rows w) (ix3 n o r) = x (ix3 e o r) :=
  gather_page _ x (rows w) n o r e (by rw [rows_at w n e h, expert_toInt])

/-- The `V` page of the expert an index names. -/
theorem take_v (x : FVec Ideal S8x32x1024 .f32) (w : IVec S2048 32) (n : Fin 2048) (e : Fin 8)
    (h : w (ix1 n) = BitVec.ofNat 32 e.val) (r : Fin 32) (i : Fin 1024) :
    Host.gather gather_S8x32x1024_S2048x1_S2048x32x1024_12_0_n_n_0_1_1321024 x (rows w) (ix3 n r i) = x (ix3 e r i) :=
  gather_page _ x (rows w) n r i e (by rw [rows_at w n e h, expert_toInt])

/-- The `S` row of the expert an index names. -/
theorem take_s (x : FVec Ideal S8x32 .f32) (w : IVec S2048 32) (n : Fin 2048) (e : Fin 8)
    (h : w (ix1 n) = BitVec.ofNat 32 e.val) (r : Fin 32) :
    Host.gather gather_S8x32_S2048x1_S2048x32_1_0_n_n_0_1_132 x (rows w) (ix2 n r) = x (ix2 e r) :=
  Routing.gather_row gather_S8x32_S2048x1_S2048x32_1_0_n_n_0_1_132 rfl rfl rfl rfl rfl x (rows w) n r e (rows_at w n e h) (by decide)

/-- An index that names an expert passes the take's range test. -/
theorem in_range (e : Fin 8) :
    Finset.fold IntOp.andi (1#1) (fun _ : Fin 1 =>
      IntOp.andi
        (IntOp.cmpi .sge (Scalar.select (IntOp.cmpi .slt (BitVec.ofNat 32 e.val) 0#32)
          (IntOp.addi (BitVec.ofNat 32 e.val) 8#32) (BitVec.ofNat 32 e.val)) 0#32)
        (IntOp.cmpi .sle (Scalar.select (IntOp.cmpi .slt (BitVec.ofNat 32 e.val) 0#32)
          (IntOp.addi (BitVec.ofNat 32 e.val) 8#32) (BitVec.ofNat 32 e.val)) 7#32)) Finset.univ = 1#1 := by
  revert e; decide

/-- The layer's entry for token `n` and output coordinate `o`, taken as the reference takes it: the two named experts'
    sums, each weighted by its gate. -/
def experts (x : FVec Ideal S2048x1024 .f32) (w : FVec Ideal S1024x1024 .f32) (u : FVec Ideal S8x1024x32 .f32)
    (s : FVec Ideal S8x32 .f32) (v : FVec Ideal S8x32x1024 .f32) (b : FVec Ideal S1024 .f32) (g : FVec Ideal S2048x2 .f32)
    (e₀ e₁ : Fin 8) (n : Fin 2048) (o : Fin 1024) : EReal :=
  ∑ i, x (ix2 n i) * w (ix2 o i)
    + (expert (fun e r => ∑ i, x (ix2 n i) * v (ix3 e r i)) (fun e r => s (ix2 e r)) (fun e r => u (ix3 e o r)) e₀ * g (ix2 n 0)
      + expert (fun e r => ∑ i, x (ix2 n i) * v (ix3 e r i)) (fun e r => s (ix2 e r)) (fun e r => u (ix3 e o r)) e₁ * g (ix2 n 1))
    + b (ix1 o)

/-- The reference's result for a token whose indices name experts `e₀` and `e₁`. -/
theorem value (c : Dev nD) (n : Fin 2048) (o : Fin 1024) (e₀ e₁ : Fin 8)
    (h₀ : (m (c.tc.loc main_arg7) : IVec S2048x2 32) (ix2 n 0) = BitVec.ofNat 32 e₀.val)
    (h₁ : (m (c.tc.loc main_arg7) : IVec S2048x2 32) (ix2 n 1) = BitVec.ofNat 32 e₁.val) :
    (Value.res_main_v39 m c : FVec Ideal S2048x1024 .f32) (ix2 n o) =
      experts (m (c.tc.loc main_arg0)) (m (c.tc.loc main_arg1)) (m (c.tc.loc main_arg2)) (m (c.tc.loc main_arg3))
        (m (c.tc.loc main_arg4)) (m (c.tc.loc main_arg5)) (m (c.tc.loc main_arg6)) e₀ e₁ n o := by
  have w₀ : (shapeCast S2048 (extractStridedSlice S2048x1 ![0, 0] (m (c.tc.loc main_arg7)) slices_S2048x2_S2048x1_0_0)
      shapeCasts_S2048x1_S2048 : IVec S2048 32) (ix1 n) = BitVec.ofNat 32 e₀.val := by
    refine Eq.trans ?_ h₀
    pointwise
  have w₁ : (shapeCast S2048 (extractStridedSlice S2048x1 ![0, 1] (m (c.tc.loc main_arg7)) slices_S2048x2_S2048x1_0_1)
      shapeCasts_S2048x1_S2048 : IVec S2048 32) (ix1 n) = BitVec.ofNat 32 e₁.val := by
    refine Eq.trans ?_ h₁
    pointwise
  unfold Value.res_main_v39 experts expert
  pointwise
  simp only [h₀, h₁, in_range, take_u _ _ n e₀ w₀, take_u _ _ n e₁ w₁, take_v _ _ n e₀ w₀, take_v _ _ n e₁ w₁,
    take_s _ _ n e₀ w₀, take_s _ _ n e₁ w₁]
  simp [Scalar.select]

end Cert.ReferenceIdeal.Layer

end
-- ==== Proof.Routed.lean ====
/- What the precondition says, read off its printed form: every index names one of the eight experts, every gate is
   real, and either no gate is negative or everything the experts multiply is real. -/
module

public import proofs.«01_k».proof.Proof.Gen.Pre_tokens_routed
public import proofs.«01_k».proof.Proof.HostReads
public import proofs.«01_k».proof.Proof.Mixture
public import Idealize.ShloMosaic.PureOps.Ideal
public import Idealize.ShloMosaic.Lib.Pointwise

@[expose] public section

noncomputable section

open Idealize.ShloMosaic
open Cert.Mixture Cert.HostReads

namespace Cert.Pre_tokens_routed.Layer

open Cert.Pre_tokens_routed Cert.Pre_tokens_routed.Gen

/-- A truth value's bit is set exactly when it is true. -/
theorem ofBool_one (b : Bool) : BitVec.ofBool b = 1#1 ↔ b = true := by cases b <;> decide

/-- An entry whose absolute value tests below infinity is real. -/
theorem isReal_of_test {s : Shape} (h : S_.BroadcastsInDim s ![]) (a : FVec Ideal s .f32) (i : s.Idx)
    (ht : cmpf .olt (Host.absf a) (broadcastInDim s ![] h (constant S_ .f32 0x7F800000#32)) i = 1#1) : IsReal (a i) := by
  apply isReal_of_abs_lt_top
  have hb : Ideal.ofBits .f32 0x7F800000#32 = ⊤ := by simp [Ideal.ofBits, Ideal.ieee]
  revert ht
  pointwise
  rw [hb]
  exact fun ht => of_decide_eq_true ((ofBool_one _).1 ht)

/-- A whole array is real when the conjunction of its entries' tests is set. -/
theorem isReal_of_tests {s : Shape} {axes : List (Fin s.rank)} (h : S_.BroadcastsInDim s ![]) (hr : s.ReducesTo axes S_) (a : FVec Ideal s .f32)
    (j : S_.Idx) (ht : Host.reduce IntOp.andi (cmpf .olt (Host.absf a) (broadcastInDim s ![] h (constant S_ .f32 0x7F800000#32)))
      (constantI S_ 1 1#1) hr h_S_ j = 1#1) (i : s.Idx) : IsReal (a i) :=
  isReal_of_test h a i (((reduce_andi _ _ hr h_S_ j).1 ht).2 i (funext fun b => b.elim0))

/-- A word that tests at least 0 and below 8 is an expert's number. -/
theorem names_of_test (a : BitVec 32) (h₀ : IntOp.cmpi .sge a 0#32 = 1#1) (h₁ : IntOp.cmpi .slt a 8#32 = 1#1) :
    ∃ e : Fin 8, a = BitVec.ofNat 32 e.val := by
  have h₀' : (0#32).sle a := (ofBool_one _).1 h₀
  have h₁' : a.slt 8#32 := (ofBool_one _).1 h₁
  have hlt : a.toNat < 8 := by
    simp only [BitVec.sle, BitVec.slt, BitVec.toInt_eq_toNat_cond, decide_eq_true_eq] at h₀' h₁'
    have := a.isLt
    simp at h₀' h₁'
    split at h₀' <;> omega
  exact ⟨⟨a.toNat, hlt⟩, BitVec.eq_of_toNat_eq (by simp)⟩

variable (x : FVec Ideal S2048x1024 .f32) (w : FVec Ideal S1024x1024 .f32) (u : FVec Ideal S8x1024x32 .f32)
  (s : FVec Ideal S8x32 .f32) (v : FVec Ideal S8x32x1024 .f32) (b : FVec Ideal S1024 .f32) (g : FVec Ideal S2048x2 .f32)
  (idx : IVec S2048x2 32)

/-- The precondition at an entry of the gates and indices. -/
theorem at_entry (h : fn x w u s v b g idx = fun _ => 1#1) (i : S2048x2.Idx) :
    (∃ e : Fin 8, idx i = BitVec.ofNat 32 e.val) ∧ IsReal (g i)
      ∧ (0 ≤ g i ∨ ((∀ k, IsReal (x k)) ∧ (∀ k, IsReal (u k)) ∧ (∀ k, IsReal (s k)) ∧ (∀ k, IsReal (v k)))) := by
  have hi := congrFun h i
  unfold fn fn_part1 at hi
  obtain ⟨hn, hs⟩ := (andi_one _ _).1 hi
  obtain ⟨hidx, hg⟩ := (andi_one _ _).1 hn
  obtain ⟨hge, hlt⟩ := (andi_one _ _).1 hidx
  refine ⟨names_of_test _ hge hlt, isReal_of_test _ g i hg, ((ori_one _ _).1 hs).imp (fun h => ?_) fun h => ?_⟩
  · revert h
    pointwise
    exact fun h => of_decide_eq_true ((ofBool_one _).1 h)
  · obtain ⟨h, hv⟩ := (andi_one _ _).1 h
    obtain ⟨h, hs⟩ := (andi_one _ _).1 h
    obtain ⟨hx, hu⟩ := (andi_one _ _).1 h
    exact ⟨isReal_of_tests _ _ x _ hx, isReal_of_tests _ _ u _ hu, isReal_of_tests _ _ s _ hs, isReal_of_tests _ _ v _ hv⟩

/-- The precondition as a whole: every index names an expert, every gate is real, and either no gate is negative or
    the inputs and the experts' tables are real. -/
theorem routed (h : fn x w u s v b g idx = fun _ => 1#1) :
    (∀ i, ∃ e : Fin 8, idx i = BitVec.ofNat 32 e.val) ∧ (∀ i, IsReal (g i))
      ∧ ((∀ i, 0 ≤ g i) ∨ ((∀ k, IsReal (x k)) ∧ (∀ k, IsReal (u k)) ∧ (∀ k, IsReal (s k)) ∧ (∀ k, IsReal (v k)))) := by
  refine ⟨fun i => (at_entry x w u s v b g idx h i).1, fun i => (at_entry x w u s v b g idx h i).2.1, ?_⟩
  by_cases hr : (∀ k, IsReal (x k)) ∧ (∀ k, IsReal (u k)) ∧ (∀ k, IsReal (s k)) ∧ (∀ k, IsReal (v k))
  · exact Or.inr hr
  · exact Or.inl fun i => (at_entry x w u s v b g idx h i).2.2.resolve_right hr

end Cert.Pre_tokens_routed.Layer

end
-- ==== Proof.Equal.lean ====
/- The two programs' results are one array wherever the precondition holds. -/
module

public import proofs.«01_k».proof.Proof.KernelValue
public import proofs.«01_k».proof.Proof.ReferenceValue
public import proofs.«01_k».proof.Proof.Routed

@[expose] public section

noncomputable section

open Idealize.ShloMosaic Idealize.ShloMosaic.TcCoe
open Cert.Mixture

namespace Cert.Equal

open Cert.Pre_tokens_routed (S2048x1024 S1024x1024 S8x1024x32 S8x32 S8x32x1024 S1024 S2048x2)

/-- A column's weight in the kernel: the word comparison with the column's expert is the comparison of experts. -/
theorem weight_word (e₀ e₁ a : Fin 8) (g₀ g₁ : EReal) :
    (if BitVec.ofNat 32 e₀.val = BitVec.ofNat 32 a.val then g₀ else 0) + (if BitVec.ofNat 32 e₁.val = BitVec.ofNat 32 a.val then g₁ else 0)
      = weight e₀ e₁ g₀ g₁ a := by
  have inj : ∀ e a : Fin 8, BitVec.ofNat 32 e.val = BitVec.ofNat 32 a.val ↔ e = a := by decide
  simp only [weight, inj]

variable (x : FVec Ideal S2048x1024 .f32) (w : FVec Ideal S1024x1024 .f32) (u : FVec Ideal S8x1024x32 .f32)
  (s : FVec Ideal S8x32 .f32) (v : FVec Ideal S8x32x1024 .f32) (b : FVec Ideal S1024 .f32) (g : FVec Ideal S2048x2 .f32)
  (idx : IVec S2048x2 32)

/-- For a token whose indices name experts `e₀` and `e₁`, the kernel's sum over columns is the reference's two experts. -/
theorem columns_eq_experts (n : Fin 2048) (o : Fin 1024) (e₀ e₁ : Fin 8)
    (h₀ : idx (ix2 n 0) = BitVec.ofNat 32 e₀.val) (h₁ : idx (ix2 n 1) = BitVec.ofNat 32 e₁.val)
    (hg : ∀ i, IsReal (g i))
    (h : (∀ i, 0 ≤ g i) ∨ ((∀ k, IsReal (x k)) ∧ (∀ k, IsReal (u k)) ∧ (∀ k, IsReal (s k)) ∧ (∀ k, IsReal (v k)))) :
    KernelIdeal.Layer.columns x w u s v b g idx n o = ReferenceIdeal.Layer.experts x w u s v b g e₀ e₁ n o := by
  unfold KernelIdeal.Layer.columns ReferenceIdeal.Layer.experts
  rw [← sum_columns (fun e r => ∑ i, x (ix2 n i) * v (ix3 e r i)) (fun e r => s (ix2 e r)) (fun e r => u (ix3 e o r)) e₀ e₁
    (hg (ix2 n 0)) (hg (ix2 n 1))
    (h.imp (fun h => ⟨h _, h _⟩) fun ⟨hx, hu, hs, hv⟩ a r =>
      ⟨isReal_sum _ _ fun i _ => (hx _).mul (hv _), hs _, hu _⟩)]
  simp only [h₀, h₁]
  refine congrArg (fun t => _ + t + _) (Finset.sum_congr rfl fun k _ => ?_)
  rw [← weight_word]

/-- From memories that agree on the arguments, and where the precondition holds, the reference's result is the kernel's. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Pre_tokens_routed.fn (F := Ideal) (m (c.tc.loc KernelIdeal.main_arg0)) (m (c.tc.loc KernelIdeal.main_arg1))
      (m (c.tc.loc KernelIdeal.main_arg2)) (m (c.tc.loc KernelIdeal.main_arg3)) (m (c.tc.loc KernelIdeal.main_arg4))
      (m (c.tc.loc KernelIdeal.main_arg5)) (m (c.tc.loc KernelIdeal.main_arg6)) (m (c.tc.loc KernelIdeal.main_arg7)) = fun _ => 1#1)
    (h₀ : m' (c.tc.loc ReferenceIdeal.main_arg0) = m (c.tc.loc KernelIdeal.main_arg0))
    (h₁ : m' (c.tc.loc ReferenceIdeal.main_arg1) = m (c.tc.loc KernelIdeal.main_arg1))
    (h₂ : m' (c.tc.loc ReferenceIdeal.main_arg2) = m (c.tc.loc KernelIdeal.main_arg2))
    (h₃ : m' (c.tc.loc ReferenceIdeal.main_arg3) = m (c.tc.loc KernelIdeal.main_arg3))
    (h₄ : m' (c.tc.loc ReferenceIdeal.main_arg4) = m (c.tc.loc KernelIdeal.main_arg4))
    (h₅ : m' (c.tc.loc ReferenceIdeal.main_arg5) = m (c.tc.loc KernelIdeal.main_arg5))
    (h₆ : m' (c.tc.loc ReferenceIdeal.main_arg6) = m (c.tc.loc KernelIdeal.main_arg6))
    (h₇ : m' (c.tc.loc ReferenceIdeal.main_arg7) = m (c.tc.loc KernelIdeal.main_arg7)) :
    (ReferenceIdeal.Value.res_main_v39 m' c : FVec Ideal S2048x1024 .f32) = (KernelIdeal.Gen.dats m 0 c).arrAt 8 KernelIdeal.cfg0.N := by
  obtain ⟨hidx, hg, h⟩ := Pre_tokens_routed.Layer.routed _ _ _ _ _ _ _ _ hpre
  refine Eq.trans ?_ (KernelIdeal.Layer.final m c).symm
  funext j
  obtain ⟨n, o, rfl⟩ : ∃ (n : Fin 2048) (o : Fin 1024), j = ix2 n o := ⟨j 0, j 1, by funext a; match a with | ⟨0, _⟩ => rfl | ⟨1, _⟩ => rfl⟩
  obtain ⟨e₀, he₀⟩ := hidx (ix2 n 0)
  obtain ⟨e₁, he₁⟩ := hidx (ix2 n 1)
  rw [ReferenceIdeal.Layer.value m' c n o e₀ e₁ ((congrFun h₇ _).trans he₀) ((congrFun h₇ _).trans he₁), h₀, h₁, h₂, h₃, h₄, h₅, h₆]
  exact (columns_eq_experts _ _ _ _ _ _ _ _ n o e₀ e₁ he₀ he₁ hg h).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tokens_routed
public import proofs.«01_k».proof.Proof.Gen.KernelIdeal.Value
public import proofs.«01_k».proof.Proof.Gen.ReferenceIdeal.Run
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- From memories that agree on the arguments, and where the precondition holds, the kernel and the reference leave one
    result array, and both leave their arguments unchanged. -/
theorem algebraic : Cert.algebraic_KernelIdeal_ReferenceIdeal_pre_tokens_routed := by
  pair_intro
  · run_from Cert.KernelIdeal.Value.run_blocks m g
  · run_from Cert.ReferenceIdeal.Value.run m' g'
    obtain ⟨h0, h1, h2, h3, h4, h5, h6, h7⟩ := hagree c
    exact Cert.Equal.result_eq m m' c (hpre c) h0 h1 h2 h3 h4 h5 h6 h7

/-- The reference runs, leaves its arguments unchanged, and ends with every counter at zero. -/
theorem frame_reference : Cert.quiescent_ReferenceIdeal := fun m g _ =>
  θ_run_mono (Cert.ReferenceIdeal.Value.run m g) fun r h =>
    ⟨fun c => (h c).2, sem_eq_zero_of_no_sems (sig := Cert.ReferenceIdeal.sig) rfl r.2⟩

/-- The reference's frame under the precondition. -/
theorem frame_reference_routed : Cert.quiescent_ReferenceIdeal_pre_tokens_routed :=
  fun m g _ => frame_reference m g trivial

/-- Everything the certificate claims. -/
theorem claim : Cert.Claim :=
  ⟨Cert.Kernel.Gen.facts, Cert.KernelIdeal.Gen.facts, Cert.ReferenceIdeal.Gen.facts, Cert.Pre_tokens_routed.Gen.facts,
    fun m g _ => Cert.Kernel.Gen.frame m g, fun m g _ => Cert.KernelIdeal.Gen.frame m g, fun m g _ => Cert.KernelIdeal.Gen.frame m g,
    frame_reference, frame_reference_routed, trivial, algebraic⟩

end Cert.Proof

end
